-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x8192 : Shape := ⟨3, ![128, 1, 8192]⟩
abbrev S4096x32768 : Shape := ⟨2, ![4096, 32768]⟩
abbrev S64x32768 : Shape := ⟨2, ![64, 32768]⟩
abbrev S32768 : Shape := ⟨1, ![32768]⟩
abbrev S1x32768 : Shape := ⟨2, ![1, 32768]⟩
abbrev S128x1x32768 : Shape := ⟨3, ![128, 1, 32768]⟩
abbrev S4096x512 : Shape := ⟨2, ![4096, 512]⟩
abbrev S64x512 : Shape := ⟨2, ![64, 512]⟩
abbrev S1x512 : Shape := ⟨2, ![1, 512]⟩
abbrev S128x1x512 : Shape := ⟨3, ![128, 1, 512]⟩
abbrev S128x8192 : Shape := ⟨2, ![128, 8192]⟩
abbrev S64x1x512 : Shape := ⟨3, ![64, 1, 512]⟩
abbrev S64x2x512 : Shape := ⟨3, ![64, 2, 512]⟩
abbrev S128x512 : Shape := ⟨2, ![128, 512]⟩
abbrev S256x512 : Shape := ⟨2, ![256, 512]⟩
abbrev S128x256 : Shape := ⟨2, ![128, 256]⟩

abbrev nBuf : Space → Nat
  | .hbm => 7
  | .vmem => 12
  | .smem => 0
  | _ => 0

abbrev bufTy : (tb : Table) → Fin (tcTables nBuf tb) → BufTy
  | .hbm, ⟨0, _⟩ => ⟨S128x1x8192, .f32⟩
  | .hbm, ⟨1, _⟩ => ⟨S4096x32768, .i8⟩
  | .hbm, ⟨2, _⟩ => ⟨S64x32768, .bf16⟩
  | .hbm, ⟨3, _⟩ => ⟨S64x32768, .i8⟩
  | .hbm, ⟨4, _⟩ => ⟨S32768, .f32⟩
  | .hbm, ⟨5, _⟩ => ⟨S1x32768, .f32⟩
  | .hbm, ⟨6, _⟩ => ⟨S128x1x32768, .f32⟩
  | .local _ .vmem, ⟨0, _⟩ => ⟨S128x1x8192, .f32⟩
  | .local _ .vmem, ⟨1, _⟩ => ⟨S4096x512, .i8⟩
  | .local _ .vmem, ⟨2, _⟩ => ⟨S4096x512, .i8⟩
  | .local _ .vmem, ⟨3, _⟩ => ⟨S64x512, .bf16⟩
  | .local _ .vmem, ⟨4, _⟩ => ⟨S64x512, .bf16⟩
  | .local _ .vmem, ⟨5, _⟩ => ⟨S64x512, .i8⟩
  | .local _ .vmem, ⟨6, _⟩ => ⟨S64x512, .i8⟩
  | .local _ .vmem, ⟨7, _⟩ => ⟨S1x512, .f32⟩
  | .local _ .vmem, ⟨8, _⟩ => ⟨S1x512, .f32⟩
  | .local _ .vmem, ⟨9, _⟩ => ⟨S128x1x512, .f32⟩
  | .local _ .vmem, ⟨10, _⟩ => ⟨S128x1x512, .f32⟩
  | .local _ .vmem, ⟨11, _⟩ => ⟨S128x8192, .bf16⟩
  | _, _ => ⟨S128x1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S128x1x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S128x1x8192 : Shape := ⟨3, ![128, 1, 8192]⟩
abbrev S4096x32768 : Shape := ⟨2, ![4096, 32768]⟩
abbrev S64x32768 : Shape := ⟨2, ![64, 32768]⟩
abbrev S32768 : Shape := ⟨1, ![32768]⟩
abbrev S_ : Shape := ⟨0, ![]⟩
abbrev S4096x1x32768 : Shape := ⟨3, ![4096, 1, 32768]⟩
abbrev S4096x2x32768 : Shape := ⟨3, ![4096, 2, 32768]⟩
abbrev S8192x32768 : Shape := ⟨2, ![8192, 32768]⟩
abbrev S64x128x32768 : Shape := ⟨3, ![64, 128, 32768]⟩
abbrev S64x1x32768 : Shape := ⟨3, ![64, 1, 32768]⟩
abbrev S128x1x32768 : Shape := ⟨3, ![128, 1, 32768]⟩
abbrev S1x1x32768 : Shape := ⟨3, ![1, 1, 32768]⟩

abbrev nBuf : Space → Nat
  | .hbm => 32
  | .vmem => 0
  | .smem => 0
  | _ => 0

abbrev bufTy : (tb : Table) → Fin (tcTables nBuf tb) → BufTy
  | .hbm, ⟨0, _⟩ => ⟨S128x1x8192, .f32⟩
  | .hbm, ⟨1, _⟩ => ⟨S4096x32768, .i8⟩
  | .hbm, ⟨2, _⟩ => ⟨S64x32768, .bf16⟩
  | .hbm, ⟨3, _⟩ => ⟨S64x32768, .i8⟩
  | .hbm, ⟨4, _⟩ => ⟨S32768, .f32⟩
  | .hbm, ⟨5, _⟩ => ⟨S4096x32768, .i32⟩
  | .hbm, ⟨6, _⟩ => ⟨S_, .i32⟩
  | .hbm, ⟨7, _⟩ => ⟨S4096x32768, .i32⟩
  | .hbm, ⟨8, _⟩ => ⟨S4096x32768, .i32⟩
  | .hbm, ⟨9, _⟩ => ⟨S_, .i32⟩
  | .hbm, ⟨10, _⟩ => ⟨S4096x32768, .i32⟩
  | .hbm, ⟨11, _⟩ => ⟨S4096x32768, .i32⟩
  | .hbm, ⟨12, _⟩ => ⟨S4096x1x32768, .i32⟩
  | .hbm, ⟨13, _⟩ => ⟨S4096x1x32768, .i32⟩
  | .hbm, ⟨14, _⟩ => ⟨S4096x2x32768, .i32⟩
  | .hbm, ⟨15, _⟩ => ⟨S8192x32768, .i32⟩
  | .hbm, ⟨16, _⟩ => ⟨S8192x32768, .bf16⟩
  | .hbm, ⟨17, _⟩ => ⟨S64x128x32768, .bf16⟩
  | .hbm, ⟨18, _⟩ => ⟨S64x32768, .i32⟩
  | .hbm, ⟨19, _⟩ => ⟨S64x32768, .bf16⟩
  | .hbm, ⟨20, _⟩ => ⟨S64x1x32768, .bf16⟩
  | .hbm, ⟨21, _⟩ => ⟨S64x128x32768, .bf16⟩
  | .hbm, ⟨22, _⟩ => ⟨S64x128x32768, .bf16⟩
  | .hbm, ⟨23, _⟩ => ⟨S64x1x32768, .bf16⟩
  | .hbm, ⟨24, _⟩ => ⟨S64x128x32768, .bf16⟩
  | .hbm, ⟨25, _⟩ => ⟨S64x128x32768, .bf16⟩
  | .hbm, ⟨26, _⟩ => ⟨S8192x32768, .bf16⟩
  | .hbm, ⟨27, _⟩ => ⟨S128x1x8192, .bf16⟩
  | .hbm, ⟨28, _⟩ => ⟨S128x1x32768, .f32⟩
  | .hbm, ⟨29, _⟩ => ⟨S1x1x32768, .f32⟩
  | .hbm, ⟨30, _⟩ => ⟨S128x1x32768, .f32⟩
  | .hbm, ⟨31, _⟩ => ⟨S128x1x32768, .f32⟩
  | _, _ => ⟨S128x1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Proof.Codes.lean ====
/-
  THE CODES. A packed byte holds two 4-bit codes: the low nibble is the code of the even row, the high nibble that of
  the odd row. Both programs unpack it by integer words; these lemmas say that either way gives the same natural number.
-/
module

public import Idealize.ShloMosaic.Lib.Pointwise

@[expose] public section

namespace Cert.Codes

open Idealize.ShloMosaic

/-- The code that a packed byte `w` holds for a row: the low nibble for an even row, the high nibble for an odd one. -/
def code (w : BitVec 8) (row : ℕ) : ℕ := if row % 2 = 0 then w.toNat % 16 else w.toNat / 16

/-- A 4-bit word made of the low nibble reads as the even row's code. -/
theorem low4 (w : BitVec 8) : ((IntOp.andi (w.setWidth 32) 15#32).setWidth 4).toNat = w.toNat % 16 := by
  revert w; decide +kernel

/-- A 4-bit word made of the high nibble reads as the odd row's code. -/
theorem high4 (w : BitVec 8) : ((IntOp.shrsi .vector (w.setWidth 32) 4#32).setWidth 4).toNat = w.toNat / 16 := by
  revert w; decide +kernel

/-- A 32-bit word holding the low nibble, read signed, is the even row's code. -/
theorem low32 (w : BitVec 8) : (IntOp.andi (w.setWidth 32) 15#32).toInt = ((w.toNat % 16 : ℕ) : ℤ) := by
  revert w; decide +kernel

/-- A 32-bit word holding the high nibble, read signed, is the odd row's code. -/
theorem high32 (w : BitVec 8) : (IntOp.shrsi .host (w.setWidth 32) 4#32).toInt = ((w.toNat / 16 : ℕ) : ℤ) := by
  revert w; decide +kernel

/-- A byte widened to 32 bits, read signed, is the byte read unsigned. -/
theorem wide32 (z : BitVec 8) : (z.setWidth 32).toInt = ((z.toNat : ℕ) : ℤ) := by
  revert z; decide +kernel

/-- One dequantised weight: the row's code less the zero point, times the scale, in the extended reals. -/
noncomputable def deq (w : BitVec 8) (row : ℕ) (z : BitVec 8) (s : EReal) : EReal :=
  ((((code w row : ℕ) : ℝ) : EReal) - (((z.toNat : ℕ) : ℝ) : EReal)) * s

/-- Only the row's parity matters. -/
theorem deq_parity (w : BitVec 8) {row row' : ℕ} (h : row % 2 = row' % 2) (z : BitVec 8) (s : EReal) : deq w row z s = deq w row' z s := by
  unfold deq code; rw [h]

/-- The kernel's spelling of a dequantised weight: 4-bit words read unsigned, the zero point's byte read unsigned. -/
theorem deq_of_unsigned (w : BitVec 8) (row : ℕ) (z : BitVec 8) (s : EReal) :
    (FloatOps.uitofp (F := Ideal) .bf16 (BitVec.setWidth 4 (if h : row % 2 < 1 then IntOp.andi (w.setWidth 32) 15#32 else IntOp.shrsi .vector (w.setWidth 32) 4#32))
      - FloatOps.uitofp (F := Ideal) .bf16 z) * s = deq w row z s := by
  show ((((BitVec.toNat _ : ℕ) : ℝ) : EReal) - (((BitVec.toNat _ : ℕ) : ℝ) : EReal)) * s = deq w row z s
  unfold deq code
  by_cases h : row % 2 = 0
  · rw [dif_pos (by omega), if_pos h, low4]
  · rw [dif_neg (by omega), if_neg h, high4]

/-- The reference's spelling of a dequantised weight: 32-bit words read signed. -/
theorem deq_of_signed (w : BitVec 8) (row : ℕ) (z : BitVec 8) (s : EReal) :
    (FloatOps.sitofp (F := Ideal) .bf16 (if h : row % 2 < 1 then IntOp.andi (w.setWidth 32) 15#32 else IntOp.shrsi .host (w.setWidth 32) 4#32)
      - FloatOps.sitofp (F := Ideal) .bf16 (z.setWidth 32)) * s = deq w row z s := by
  show ((((BitVec.toInt _ : ℤ) : ℝ) : EReal) - (((BitVec.toInt _ : ℤ) : ℝ) : EReal)) * s = deq w row z s
  unfold deq code
  rw [wide32]
  by_cases h : row % 2 = 0
  · rw [dif_pos (by omega), if_pos h, low32]; rfl
  · rw [dif_neg (by omega), if_neg h, high32]; rfl

end Cert.Codes
-- ==== Proof.Tile.lean ====
/-
  ONE BLOCK. What the kernel's body computes at one grid point, as a function of the contents of its buffers: a 512-column
  block of the result, built by adding thirty-two products of a 256-column part of x with a 256-row part of the weight.
-/
module

public import proofs.«01_k».proof.Proof.Gen.KernelIdeal.Frame
public import Idealize.ShloMosaic.Lib.Pipeline.Value
public import Idealize.ShloMosaic.Lib.Tactic

@[expose] public section

set_option maxRecDepth 65536

noncomputable section

namespace Cert.KernelIdeal.Tile

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem inbW (g : Fin 64) : ∀ a, (![64 * g.val, 0] : Fin 2 → Nat) a + S64x512.size a ≤ S4096x512.size a := by
  intro a; fin_cases a
  · show 64 * g.val + 64 ≤ 4096; omega
  · show 0 + 512 ≤ 512; omega

theorem inbR (g : Fin 64) : ∀ a, (![g.val, 0] : Fin 2 → Nat) a + S1x512.size a ≤ S64x512.size a := by
  intro a; fin_cases a
  · show g.val + 1 ≤ 64; omega
  · show 0 + 512 ≤ 512; omega

theorem inbX (j : Fin 32) : ∀ a, (![0, 256 * j.val] : Fin 2 → Nat) a + S128x256.size a ≤ S128x8192.size a := by
  intro a; fin_cases a
  · show 0 + 128 ≤ 128; omega
  · show 256 * j.val + 256 ≤ 8192; omega

/-- The 64 packed rows of group `g`. -/
def rowsW (W : Vec F S4096x512 .i8) (g : Fin 64) : Vec F S64x512 .i8 :=
  View.ld W (Rect.unit (s := S4096x512) ![64 * g.val, 0] S64x512.size (inbW g))

/-- Row `g` of a table with one row per group. -/
def rowG {e : EltTy} (Z : Vec F S64x512 e) (g : Fin 64) : Vec F S1x512 e :=
  View.ld Z (Rect.unit (s := S64x512) ![g.val, 0] S1x512.size (inbR g))

/-- The 256 columns of x that product `j` reads. -/
def colsX (X : Vec F S128x8192 .bf16) (j : Fin 32) : Vec F S128x256 .bf16 :=
  View.ld X (Rect.unit (s := S128x8192) ![0, 256 * j.val] S128x256.size (inbX j))

/-- The 128 dequantised rows of group `g`. -/
def slab (W : Vec F S4096x512 .i8) (S : Vec F S64x512 .bf16) (Z : Vec F S64x512 .i8) (g : Fin 64) : FVec F S128x512 .bf16 :=
  k0_pay3 (rowsW W g) (rowG Z g) (rowG S g)

/-- Product `j`: 256 columns of x times the 256 dequantised rows of groups `2 j` and `2 j + 1`. -/
def part (X : Vec F S128x8192 .bf16) (W : Vec F S4096x512 .i8) (S : Vec F S64x512 .bf16) (Z : Vec F S64x512 .i8) (j : Fin 32) : FVec F S128x512 .f32 :=
  matmul dot_S128x256_S256x512_S128x512_1_0_0_1_n_n none (colsX X j)
    (concatenate S256x512 0 [⟨S128x512, slab W S Z ⟨2 * j.val, by omega⟩⟩, ⟨S128x512, slab W S Z ⟨2 * j.val + 1, by omega⟩⟩]
      concatenates_S128x512_S128x512_S256x512_d0)
    (constant S128x512 .f32 0x00000000#32)

/-- The products `0, …, n` added in order. -/
def acc (X : Vec F S128x8192 .bf16) (W : Vec F S4096x512 .i8) (S : Vec F S64x512 .bf16) (Z : Vec F S64x512 .i8) : (n : ℕ) → n < 32 → FVec F S128x512 .f32
  | 0, h => part X W S Z ⟨0, h⟩
  | n + 1, h => addf (acc X W S Z n (Nat.lt_of_succ_lt h)) (part X W S Z ⟨n + 1, h⟩)

/-- The block of the result: all thirty-two products added in order, then the bias row added to every row. -/
def block (X : Vec F S128x8192 .bf16) (W : Vec F S4096x512 .i8) (S : Vec F S64x512 .bf16) (Z : Vec F S64x512 .i8) (B : Vec F S1x512 .f32) : FVec F S128x1x512 .f32 :=
  shapeCast S128x1x512 (addf (acc X W S Z 31 (by decide)) (broadcastTo S128x512 (shapeCast S1x512 B shapeCasts_S1x512_S1x512) broadcasts_S1x512_S128x512))
    shapeCasts_S128x512_S128x1x512

/-- A point after the first leaves the block computed from the scratch's contents. -/
theorem out_B (c : Dev nD) (i : grid0.Coords) (arg1 : Memref sig .tc .vmem S128x1x8192 .f32) (harg1 : arg1.IsWhole) (arg2 : Memref sig .tc .vmem S4096x512 .i8) (harg2 : arg2.IsWhole) (arg3 : Memref sig .tc .vmem S64x512 .bf16) (harg3 : arg3.IsWhole) (arg4 : Memref sig .tc .vmem S64x512 .i8) (harg4 : arg4.IsWhole) (arg5 : Memref sig .tc .vmem S1x512 .f32) (harg5 : arg5.IsWhole) (arg6 : Memref sig .tc .vmem S128x1x512 .f32) (harg6 : arg6.IsWhole) (arg7 : Memref sig .tc .vmem S128x8192 .bf16) (harg7 : arg7.IsWhole) (hc0 : ¬cond0_0 i)
    (x0 : Vec F S128x1x8192 .f32) (x1 : Vec F S4096x512 .i8) (x2 : Vec F S64x512 .bf16) (x3 : Vec F S64x512 .i8) (x4 : Vec F S1x512 .f32) (xs0 : Vec F S128x8192 .bf16) :
    out0_B_5 c i arg1 harg1 arg2 harg2 arg3 harg3 arg4 harg4 arg5 harg5 arg6 harg6 arg7 harg7 hc0 x0 x1 x2 x3 x4 xs0 = block xs0 x1 x2 x3 x4 := by
  unfold out0_B_5
  rw [View.read_writes_eq_canon _ _ _ (cover0_B_5 c i arg1 harg1 arg2 harg2 arg3 harg3 arg4 harg4 arg5 harg5 arg6 harg6 arg7 harg7 hc0 x0 x1 x2 x3 x4 xs0)]
  unfold kernelRun0_B
  dsimp only
  sl_unfold_words
  rw [View.canon_unit_zero hz3]
  simp only [View.readAt_eq_ld, harg2.read_unread, harg3.read_unread, harg4.read_unread, harg5.read_unread, harg7.read_unread]
  rw [View.ld_unit_zero (S := S1x512) hz2]
  rfl

/-- The first point leaves the block computed from x itself, which it first copies into the scratch. -/
theorem out_A (c : Dev nD) (i : grid0.Coords) (arg1 : Memref sig .tc .vmem S128x1x8192 .f32) (harg1 : arg1.IsWhole) (arg2 : Memref sig .tc .vmem S4096x512 .i8) (harg2 : arg2.IsWhole) (arg3 : Memref sig .tc .vmem S64x512 .bf16) (harg3 : arg3.IsWhole) (arg4 : Memref sig .tc .vmem S64x512 .i8) (harg4 : arg4.IsWhole) (arg5 : Memref sig .tc .vmem S1x512 .f32) (harg5 : arg5.IsWhole) (arg6 : Memref sig .tc .vmem S128x1x512 .f32) (harg6 : arg6.IsWhole) (arg7 : Memref sig .tc .vmem S128x8192 .bf16) (harg7 : arg7.IsWhole) (hc0 : cond0_0 i)
    (x0 : Vec F S128x1x8192 .f32) (x1 : Vec F S4096x512 .i8) (x2 : Vec F S64x512 .bf16) (x3 : Vec F S64x512 .i8) (x4 : Vec F S1x512 .f32) :
    out0_A_5 c i arg1 harg1 arg2 harg2 arg3 harg3 arg4 harg4 arg5 harg5 arg6 harg6 arg7 harg7 hc0 x0 x1 x2 x3 x4 = block (k0_pay2 x0) x1 x2 x3 x4 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz3]
  simp only [View.readCov_eq_canon', View.readAt_eq_ld, harg1.read_unread, harg2.read_unread, harg3.read_unread, harg4.read_unread, harg5.read_unread]
  rw [View.canon_unit_zero (S := S128x8192) hz2, View.ld_unit_zero (S := S1x512) hz2, View.ld_unit_zero (S := S128x1x8192) hz3]
  rfl

/-- The first point leaves x in the scratch. -/
theorem sout_A (c : Dev nD) (i : grid0.Coords) (arg1 : Memref sig .tc .vmem S128x1x8192 .f32) (harg1 : arg1.IsWhole) (arg2 : Memref sig .tc .vmem S4096x512 .i8) (harg2 : arg2.IsWhole) (arg3 : Memref sig .tc .vmem S64x512 .bf16) (harg3 : arg3.IsWhole) (arg4 : Memref sig .tc .vmem S64x512 .i8) (harg4 : arg4.IsWhole) (arg5 : Memref sig .tc .vmem S1x512 .f32) (harg5 : arg5.IsWhole) (arg6 : Memref sig .tc .vmem S128x1x512 .f32) (harg6 : arg6.IsWhole) (arg7 : Memref sig .tc .vmem S128x8192 .bf16) (harg7 : arg7.IsWhole) (hc0 : cond0_0 i)
    (x0 : Vec F S128x1x8192 .f32) (x1 : Vec F S4096x512 .i8) (x2 : Vec F S64x512 .bf16) (x3 : Vec F S64x512 .i8) (x4 : Vec F S1x512 .f32) :
    sout0_A_0 c i arg1 harg1 arg2 harg2 arg3 harg3 arg4 harg4 arg5 harg5 arg6 harg6 arg7 harg7 hc0 x0 x1 x2 x3 x4 = k0_pay2 x0 := by
  unfold sout0_A_0
  rw [View.read_writes_eq_canon _ _ _ (scover0_A_0 c i arg1 harg1 arg2 harg2 arg3 harg3 arg4 harg4 arg5 harg5 arg6 harg6 arg7 harg7 hc0 x0 x1 x2 x3 x4)]
  unfold kernelRun0_A
  dsimp only
  sl_unfold_words
  rw [View.canon_unit_zero (S := S128x8192) hz2]
  simp only [View.readAt_eq_ld, harg1.read_unread]
  rw [View.ld_unit_zero (S := S128x1x8192) hz3]

end Cert.KernelIdeal.Tile
-- ==== Proof.Block.lean ====
/-
  ONE BLOCK, READ. Over the extended reals, entry (b, n) of the block that `Tile` describes is the sum over all 8192 rows k
  of x at (b, k) times the dequantised weight at (k, n), plus the bias at n.
-/
module

public import proofs.«01_k».proof.Proof.Codes
public import proofs.«01_k».proof.Proof.Tile
public import Idealize.ShloMosaic.Lib.Pipeline.ValueKit.Tiles
public import Idealize.ShloMosaic.Lib.Pointwise

@[expose] public section

set_option maxRecDepth 16384

noncomputable section

namespace Cert.KernelIdeal.Block

open Cert.KernelIdeal Cert.KernelIdeal.Gen Cert.KernelIdeal.Tile Idealize.ShloMosaic Cert.Codes

variable (X : Vec Ideal S128x8192 .bf16) (W : Vec Ideal S4096x512 .i8) (S : Vec Ideal S64x512 .bf16) (Z : Vec Ideal S64x512 .i8) (B : Vec Ideal S1x512 .f32)

/-- The dequantised weight at row `k`, column `n` of the block. -/
def wt (k : Fin 8192) (n : Fin 512) : EReal :=
  deq (W (ix2 ⟨k.val / 2, by omega⟩ n)) k.val (Z (ix2 ⟨k.val / 128, by omega⟩ n)) (S (ix2 ⟨k.val / 128, by omega⟩ n))

theorem rowsW_apply (g : Fin 64) (r : Fin 64) (n : Fin 512) : rowsW W g (ix2 r n) = W (ix2 ⟨64 * g.val + r.val, by omega⟩ n) :=
  congrArg W (funext fun a => Fin.ext ((Rect.idx_unit_val _ _ _ _ a).trans (by fin_cases a <;> simp [ix2])))

theorem rowG_apply {e : EltTy} (T : Vec Ideal S64x512 e) (g : Fin 64) (n : Fin 512) : rowG T g (ix2 0 n) = T (ix2 g n) :=
  congrArg T (funext fun a => Fin.ext ((Rect.idx_unit_val _ _ _ _ a).trans (by fin_cases a <;> simp [ix2])))

theorem colsX_apply (j : Fin 32) (b : Fin 128) (q : Fin 256) : colsX X j (ix2 b q) = X (ix2 b ⟨256 * j.val + q.val, by omega⟩) :=
  congrArg X (funext fun a => Fin.ext ((Rect.idx_unit_val _ _ _ _ a).trans (by fin_cases a <;> simp [ix2])))

/-- A dequantised slab's row `r` is the weight's row `128 g + r`. -/
theorem slab_apply (g : Fin 64) (r : Fin 128) (n : Fin 512) (k : Fin 8192) (hk : k.val = 128 * g.val + r.val) :
    slab W S Z g (ix2 r n) = wt W S Z k n := by
  unfold slab
  pointwise [k0_pay3]
  refine (deq_of_unsigned (rowsW W g (ix2 ⟨r.val / 2, by omega⟩ n)) r.val (rowG Z g (ix2 0 n)) (rowG S g (ix2 0 n))).trans ?_
  have h1 : (⟨k.val / 2, by omega⟩ : Fin 4096) = ⟨64 * g.val + r.val / 2, by omega⟩ := Fin.ext (by dsimp only; omega)
  have h2 : (⟨k.val / 128, by omega⟩ : Fin 64) = g := Fin.ext (by dsimp only; omega)
  unfold wt
  rw [rowsW_apply, rowG_apply, rowG_apply, h1, h2]
  exact deq_parity _ (by omega) _ _

/-- Product `j` at (b, n): the part of the inner product over the rows `256 j, …, 256 j + 255`. -/
theorem part_apply (j : Fin 32) (b : Fin 128) (n : Fin 512) :
    part X W S Z j (ix2 b n) = ∑ q : Fin 256, X (ix2 b ⟨256 * j.val + q.val, by omega⟩) * wt W S Z ⟨256 * j.val + q.val, by omega⟩ n := by
  pointwise [part]
  rw [Fin.sum_univ_add (a := 128) (b := 128) (fun q : Fin 256 => X (ix2 b ⟨256 * j.val + q.val, by omega⟩) * wt W S Z ⟨256 * j.val + q.val, by omega⟩ n)]
  refine congrArg₂ (· + ·) (Finset.sum_congr rfl fun q _ => ?_) (Finset.sum_congr rfl fun q _ => ?_)
  · rw [colsX_apply, slab_apply W S Z _ q n ⟨256 * j.val + q.val, by omega⟩ (by dsimp only; omega)]; rfl
  · rw [colsX_apply, slab_apply W S Z _ q n ⟨256 * j.val + (128 + q.val), by omega⟩ (by dsimp only; omega)]; rfl

/-- The first `n + 1` products added in order are their sum. -/
theorem acc_apply (b : Fin 128) (n : Fin 512) : ∀ (i : ℕ) (h : i < 32),
    acc X W S Z i h (ix2 b n) = ∑ j : Fin (i + 1), part X W S Z ⟨j.val, by omega⟩ (ix2 b n)
  | 0, h => by simp [acc]
  | i + 1, h => by
    rw [Fin.sum_univ_castSucc]
    show acc X W S Z i _ (ix2 b n) + _ = _
    rw [acc_apply b n i]; rfl

/-- The block's entry (b, n): the inner product of row b of x with column n of the dequantised weight, plus the bias. -/
theorem block_apply (b : Fin 128) (n : Fin 512) :
    block X W S Z B (ix3 b 0 n) = (∑ k : Fin 8192, X (ix2 b k) * wt W S Z k n) + B (ix2 0 n) := by
  have e : block X W S Z B (ix3 b 0 n) = acc X W S Z 31 (by decide) (ix2 b n) + B (ix2 0 n) := by pointwise [block]
  rw [e, acc_apply]
  refine congrArg (· + _) ?_
  simp only [part_apply]
  rw [← Fintype.sum_prod_type', ← Equiv.sum_comp (finProdFinEquiv (m := 32) (n := 256)) (fun k : Fin 8192 => X (ix2 b k) * wt W S Z k n)]
  refine Finset.sum_congr rfl fun p _ => ?_
  have hp : finProdFinEquiv (m := 32) (n := 256) p = (⟨256 * p.1.val + p.2.val, by have := p.1.isLt; have := p.2.isLt; omega⟩ : Fin 8192) :=
    Fin.ext (by simp [finProdFinEquiv, Nat.add_comm])
  rw [hp]

end Cert.KernelIdeal.Block
-- ==== Proof.Ref.lean ====
/-
  THE REFERENCE, READ. Over the extended reals, entry (b, n) of the reference's result is the sum over all 8192 rows k of x at
  (b, k) times the dequantised weight at (k, n), plus the bias at n.
-/
module

public import proofs.«01_k».proof.Proof.Codes
public import proofs.«01_k».proof.Proof.Gen.ReferenceIdeal.Run
public import Idealize.ShloMosaic.Lib.Pointwise

@[expose] public section

set_option maxRecDepth 16384

noncomputable section

namespace Cert.ReferenceIdeal.Read

open Cert.ReferenceIdeal Cert.ReferenceIdeal.Gen Idealize.ShloMosaic Idealize.ShloMosaic.TcCoe Cert.Codes

variable (x : Vec Ideal S128x1x8192 .f32) (w : Vec Ideal S4096x32768 .i8) (s : Vec Ideal S64x32768 .bf16) (z : Vec Ideal S64x32768 .i8) (bias : Vec Ideal S32768 .f32)

/-- The reference's dequantised weight, as its operations spell it. -/
def weight : FVec Ideal S8192x32768 .bf16 :=
  shapeCast _ (mulf (subf (shapeCast _ (sitofp .bf16 (shapeCast _ (concatenate S4096x2x32768 1 [⟨S4096x1x32768, (broadcastInDim S4096x1x32768 ![0, 2] bcast_S4096x32768_S4096x1x32768_0_2 (andi (extui 32 w natLt_8_32) (broadcastInDim S4096x32768 ![] bcast_S_S4096x32768 (constantI S_ 32 15#32))))⟩, ⟨S4096x1x32768, (broadcastInDim S4096x1x32768 ![0, 2] bcast_S4096x32768_S4096x1x32768_0_2 (Host.shrsi (extui 32 w natLt_8_32) (broadcastInDim S4096x32768 ![] bcast_S_S4096x32768 (constantI S_ 32 4#32))))⟩] concatenates_S4096x1x32768_S4096x1x32768_S4096x2x32768_d1) shapeCasts_S4096x2x32768_S8192x32768)) shapeCasts_S8192x32768_S64x128x32768) (broadcastInDim S64x128x32768 ![0, 1, 2] bcast_S64x1x32768_S64x128x32768_0_1_2 (broadcastInDim S64x1x32768 ![0, 2] bcast_S64x32768_S64x1x32768_0_2 (sitofp .bf16 (extui 32 z natLt_8_32))))) (broadcastInDim S64x128x32768 ![0, 1, 2] bcast_S64x1x32768_S64x128x32768_0_1_2 (broadcastInDim S64x1x32768 ![0, 2] bcast_S64x32768_S64x1x32768_0_2 s))) shapeCasts_S64x128x32768_S8192x32768

/-- The reference's result, as its operations spell it. -/
def result : FVec Ideal S128x1x32768 .f32 :=
  addf (Host.dotGeneral dot_S128x1x8192_S8192x32768_S128x1x32768_2_0_01_1_n_n none (truncf .bf16 x bitsLt_bf16_f32) (weight w s z))
    (broadcastInDim S128x1x32768 ![0, 1, 2] bcast_S1x1x32768_S128x1x32768_0_1_2 (broadcastInDim S1x1x32768 ![2] bcast_S32768_S1x1x32768_2 bias))

/-- The dequantised weight at row `k`, column `n`. -/
def wt (k : Fin 8192) (n : Fin 32768) : EReal :=
  deq (w (ix2 ⟨k.val / 2, by omega⟩ n)) k.val (z (ix2 ⟨k.val / 128, by omega⟩ n)) (s (ix2 ⟨k.val / 128, by omega⟩ n))

/-- The weight's entries are the dequantised weights. -/
theorem weight_apply (k : Fin 8192) (n : Fin 32768) : weight w s z (ix2 k n) = wt w s z k n := by
  pointwise [weight]
  exact deq_of_signed (w (ix2 ⟨k.val / 2, by omega⟩ n)) k.val (z (ix2 ⟨k.val / 128, by omega⟩ n)) (s (ix2 ⟨k.val / 128, by omega⟩ n))

/-- The result's entry (b, n): the inner product of row b of x with column n of the dequantised weight, plus the bias. -/
theorem result_apply (b : Fin 128) (n : Fin 32768) :
    result x w s z bias (ix3 b 0 n) = (∑ k : Fin 8192, x (ix3 b 0 k) * wt w s z k n) + bias (ix1 n) := by
  pointwise [result]
  simp only [weight_apply]

open Idealize.SL.Sem in
/-- The reference's run: it ends with `result` of the arguments, and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by unfold result weight; rfl), (h c).2⟩) (Cert.ReferenceIdeal.Value.run (F := Ideal) m ρ)

end Cert.ReferenceIdeal.Read
-- ==== Proof.Array.lean ====
/-
  THE ARRAY. What the kernel's result array holds after the run: point t writes columns 512 t, …, 512 t + 511, every point
  works from the copy of x that the first one left in the scratch, and together the blocks are the reference's result.
-/
module

public import proofs.«01_k».proof.Proof.Block
public import proofs.«01_k».proof.Proof.Ref
public import proofs.«01_k».proof.Proof.Gen.KernelIdeal.Value

@[expose] public section

set_option maxRecDepth 16384

noncomputable section

namespace Cert.KernelIdeal.Array

open Cert.KernelIdeal Cert.KernelIdeal.Gen Cert.KernelIdeal.Tile Cert.KernelIdeal.Value
open Idealize.ShloMosaic Idealize.ShloMosaic.TcCoe Idealize.SL.Sem
open Idealize.ShloMosaic.Pipeline (Dat)

variable (m : (ℓ : Loc nD τ sig) → Buf (Elt Ideal) ℓ)

/-- The five arguments as the launch left them. -/
abbrev aX (c : Dev nD) : Vec Ideal S128x1x8192 .f32 := m ((c : Thread nD τ).loc main_arg0)
abbrev aW (c : Dev nD) : Vec Ideal S4096x32768 .i8 := m ((c : Thread nD τ).loc main_arg1)
abbrev aS (c : Dev nD) : Vec Ideal S64x32768 .bf16 := m ((c : Thread nD τ).loc main_arg2)
abbrev aZ (c : Dev nD) : Vec Ideal S64x32768 .i8 := m ((c : Thread nD τ).loc main_arg3)
abbrev aB (c : Dev nD) : Vec Ideal S32768 .f32 := m ((c : Thread nD τ).loc main_arg4)

/-! ## The inputs' blocks -/

/-- The windows' block indices: x stays at its one block, every other window is at block column t. -/
theorem idx_in : ∀ t : Fin cfg0.N, (∀ a : Fin 3, win0_0.index t a = 0)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val)
    ∧ (win0_5.index t (0 : Fin 3) = 0 ∧ win0_5.index t (1 : Fin 3) = 0 ∧ win0_5.index t (2 : Fin 3) = t.val) :=
  (by decide +kernel : ∀ t : Fin grid0.N, _)

theorem lt64 (t : Fin cfg0.N) : t.val < 64 := lt_of_lt_of_eq t.isLt N_0

/-- Column `n` of block `t` is this column of the array. -/
abbrev col (t : Fin cfg0.N) (n : Fin 512) : Fin 32768 := ⟨t.val * 512 + n.val, by have := lt64 t; omega⟩

/-- x's block is x. -/
theorem iblk_x (c : Dev nD) (t : Fin cfg0.N) : (iblk m c 0 t : Vec Ideal S128x1x8192 .f32) = aX m c := by
  funext y
  show V m c main_arg0 (((cfg0.win 0).blk t).view.emb y) = _
  rw [V_main_arg0]
  refine congrArg (aX m c) (funext fun a => Fin.ext ?_)
  obtain ⟨h, -⟩ := idx_in t
  match a with
  | ⟨0, _⟩ => show win0_0.index t (0 : Fin 3) * 128 + 1 * (y 0).val = (y 0).val; rw [h]; omega
  | ⟨1, _⟩ => show win0_0.index t (1 : Fin 3) * 1 + 1 * (y 1).val = (y 1).val; rw [h]; omega
  | ⟨2, _⟩ => show win0_0.index t (2 : Fin 3) * 8192 + 1 * (y 2).val = (y 2).val; rw [h]; omega

/-- The packed weight's block is its 512 columns. -/
theorem iblk_w (c : Dev nD) (t : Fin cfg0.N) (r : Fin 4096) (n : Fin 512) :
    (iblk m c 1 t : Vec Ideal S4096x512 .i8) (ix2 r n) = aW m c (ix2 r (col t n)) := by
  obtain ⟨-, ⟨h0, h1⟩, -⟩ := idx_in t
  show V m c main_arg1 (((cfg0.win 1).blk t).view.emb (ix2 r n)) = _
  rw [V_main_arg1]
  refine congrArg (aW m c) (funext fun a => Fin.ext ?_)
  match a with
  | ⟨0, _⟩ => show win0_1.index t (0 : Fin 2) * 4096 + 1 * r.val = r.val; omega
  | ⟨1, _⟩ => show win0_1.index t (1 : Fin 2) * 512 + 1 * n.val = t.val * 512 + n.val; rw [h1]; omega

/-- The scales' block is their 512 columns. -/
theorem iblk_s (c : Dev nD) (t : Fin cfg0.N) (r : Fin 64) (n : Fin 512) :
    (iblk m c 2 t : Vec Ideal S64x512 .bf16) (ix2 r n) = aS m c (ix2 r (col t n)) := by
  obtain ⟨-, -, ⟨h0, h1⟩, -⟩ := idx_in t
  show V m c main_arg2 (((cfg0.win 2).blk t).view.emb (ix2 r n)) = _
  rw [V_main_arg2]
  refine congrArg (aS m c) (funext fun a => Fin.ext ?_)
  match a with
  | ⟨0, _⟩ => show win0_2.index t (0 : Fin 2) * 64 + 1 * r.val = r.val; omega
  | ⟨1, _⟩ => show win0_2.index t (1 : Fin 2) * 512 + 1 * n.val = t.val * 512 + n.val; rw [h1]; omega

/-- The zero points' block is their 512 columns. -/
theorem iblk_z (c : Dev nD) (t : Fin cfg0.N) (r : Fin 64) (n : Fin 512) :
    (iblk m c 3 t : Vec Ideal S64x512 .i8) (ix2 r n) = aZ m c (ix2 r (col t n)) := by
  obtain ⟨-, -, -, ⟨h0, h1⟩, -⟩ := idx_in t
  show V m c main_arg3 (((cfg0.win 3).blk t).view.emb (ix2 r n)) = _
  rw [V_main_arg3]
  refine congrArg (aZ m c) (funext fun a => Fin.ext ?_)
  match a with
  | ⟨0, _⟩ => show win0_3.index t (0 : Fin 2) * 64 + 1 * r.val = r.val; omega
  | ⟨1, _⟩ => show win0_3.index t (1 : Fin 2) * 512 + 1 * n.val = t.val * 512 + n.val; rw [h1]; omega

/-- The bias array that the blocks are cut from is the bias as one row. -/
theorem V_bias (c : Dev nD) : (V m c main_v0 : Vec Ideal S1x32768 .f32) = shapeCast S1x32768 (aB m c) shapeCasts_S32768_S1x32768 := by
  show StableHlo.after hostOps0 _ _ = _
  after_results <;> rfl

theorem bias_row (B : Vec Ideal S32768 .f32) (n : Fin 32768) : shapeCast S1x32768 B shapeCasts_S32768_S1x32768 (ix2 0 n) = B (ix1 n) := by
  pointwise

/-- The bias's block is its 512 entries. -/
theorem iblk_b (c : Dev nD) (t : Fin cfg0.N) (n : Fin 512) :
    (iblk m c 4 t : Vec Ideal S1x512 .f32) (ix2 0 n) = aB m c (ix1 (col t n)) := by
  obtain ⟨-, -, -, -, ⟨h0, h1⟩, -⟩ := idx_in t
  show V m c main_v0 (((cfg0.win 4).blk t).view.emb (ix2 0 n)) = _
  rw [V_bias, ← bias_row (aB m c)]
  refine congrArg (shapeCast S1x32768 (aB m c) shapeCasts_S32768_S1x32768) (funext fun a => Fin.ext ?_)
  match a with
  | ⟨0, _⟩ => show win0_4.index t (0 : Fin 2) * 1 + 1 * 0 = 0; omega
  | ⟨1, _⟩ => show win0_4.index t (1 : Fin 2) * 512 + 1 * n.val = t.val * 512 + n.val; rw [h1]; omega

/-! ## What each point leaves -/

/-- After every point the scratch holds x. -/
theorem scratch (c : Dev nD) : ∀ (n : ℕ) (h : n < cfg0.N), (outsAt0 m c n h).2 = k0_pay2 (aX m c)
  | 0, h => by
    rw [outsAt0_A m c ⟨0, h⟩ rfl]
    dsimp only
    rw [sout_A, iblk_x]
  | n + 1, h => by
    have hB : ¬(⟨n + 1, h⟩ : Fin cfg0.N).val % 64 = 0 := by have := lt64 ⟨n + 1, h⟩; dsimp only at this ⊢; omega
    rw [outsAt0_B m c ⟨n + 1, h⟩ hB]
    dsimp only [sout0_B_0]
    exact scratch c n (Nat.lt_of_succ_lt h)

/-- Every point leaves, in the result's buffer, the block computed from x and the point's own input blocks. -/
theorem out_eq (c : Dev nD) (t : Fin cfg0.N) :
    (outsAt0 m c t.val t.isLt).1 = block (k0_pay2 (aX m c)) (iblk m c 1 t) (iblk m c 2 t) (iblk m c 3 t) (iblk m c 4 t) := by
  by_cases h : t.val % 64 = 0
  · rw [outsAt0_A m c t h]
    dsimp only
    rw [out_A, iblk_x]
  · rw [outsAt0_B m c t h]
    dsimp only
    rw [out_B, scratch]

/-- The scratch's copy of x at (b, k) is x at (b, 0, k). -/
theorem copy_apply (x : Vec Ideal S128x1x8192 .f32) (b : Fin 128) (k : Fin 8192) : k0_pay2 x (ix2 b k) = x (ix3 b 0 k) := by
  pointwise [k0_pay2]

/-- The reference's result on the kernel's arguments. -/
abbrev R (c : Dev nD) : Buf (Elt Ideal) ((c : Thread nD τ).loc main_v1) :=
  Cert.ReferenceIdeal.Read.result (aX m c) (aW m c) (aS m c) (aZ m c) (aB m c)

/-- Entry (b, n) of block `t` is the reference's entry at the array's column. -/
theorem out_apply (c : Dev nD) (t : Fin cfg0.N) (b : Fin 128) (n : Fin 512) :
    (outsAt0 m c t.val t.isLt).1 (ix3 b 0 n) = Cert.ReferenceIdeal.Read.result (aX m c) (aW m c) (aS m c) (aZ m c) (aB m c) (ix3 b 0 (col t n)) := by
  rw [out_eq, Block.block_apply, Cert.ReferenceIdeal.Read.result_apply, iblk_b]
  refine congrArg (· + _) (Finset.sum_congr rfl fun k _ => ?_)
  rw [copy_apply]
  unfold Block.wt Cert.ReferenceIdeal.Read.wt
  rw [iblk_w, iblk_s, iblk_z]

/-- What point `t` writes back is block `t` of the reference's result. -/
theorem flushed_eq (c : Dev nD) (t : Fin cfg0.N) :
    (dats m 0 c).flushed 5 t = ((cfg0.win 5).blk t).view.read (Elt Ideal) (R m c) := by
  obtain ⟨-, -, -, -, -, h0, h1, h2⟩ := idx_in t
  rw [flushed5]
  funext y
  have hy1 : (y 1).val < 1 := (y 1).isLt
  have hl : (cfg0.win 5).xinj (grid0.coords t) y = (ix3 (y 0) 0 (y 2) : S128x1x512.Idx) := by
    funext a; apply Fin.ext
    match a with
    | ⟨0, _⟩ => rfl
    | ⟨1, _⟩ => show (y 1).val = 0; omega
    | ⟨2, _⟩ => rfl
  have hr : ((cfg0.win 5).blk t).view.emb y = (ix3 (y 0) 0 (col t (y 2)) : S128x1x32768.Idx) := by
    funext a; apply Fin.ext
    match a with
    | ⟨0, _⟩ => show win0_5.index t (0 : Fin 3) * 128 + 1 * (y 0).val = (y 0).val; omega
    | ⟨1, _⟩ => show win0_5.index t (1 : Fin 3) * 1 + 1 * (y 1).val = 0; omega
    | ⟨2, _⟩ => show win0_5.index t (2 : Fin 3) * 512 + 1 * (y 2).val = t.val * 512 + (y 2).val; rw [h2]; omega
  show (outsAt0 m c t.val t.isLt).1 ((cfg0.win 5).xinj (grid0.coords t) y) = R m c (((cfg0.win 5).blk t).view.emb y)
  rw [hl, hr]
  exact out_apply m c t (y 0) (y 2)

/-- After the run the result array holds the reference's result. -/
theorem final (c : Dev nD) : (dats m 0 c).arrAt 5 cfg0.N = R m c :=
  (dats m 0 c).arrAt_eq_of_cover 5 _ (fun t _ => flushed_eq m c t) (fun i => (covered_iff5 i).2 (by
    have h0 : (i 0).val < 128 := (i 0).isLt; have h1 : (i 1).val < 1 := (i 1).isLt; have h2 : (i 2).val < 32768 := (i 2).isLt; omega))

/-- The kernel's run: it ends with the reference's result of the arguments, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v1) = R m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (run_blocks (F := Ideal) m ρ)

end Cert.KernelIdeal.Array
-- ==== Proof.lean ====
/-
  THE PROOF of the claim stated in `Defs`. The frames come from each program's generated run. The equation of the two results
  is `Proof.Array`: what the kernel's result array holds after the run is the reference's result on the same arguments.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Array

@[expose] public section

noncomputable section

namespace Cert.Proof

open Idealize.ShloMosaic Idealize.SL.Sem

/-- The reference runs to the end, leaves its arguments as they were and every semaphore at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel and the reference leave the same result when they start from the same arguments. -/
theorem algebraic_KernelIdeal_ReferenceIdeal : algebraic_KernelIdeal_ReferenceIdeal := by
  intro m ρ m' ρ' _ hagree
  refine ⟨fun c => Cert.KernelIdeal.Array.R m c, Cert.KernelIdeal.Array.run m ρ, ?_⟩
  refine (θ_run Cert.ReferenceIdeal.defs _ _).mono (fun r h c => ⟨(h c).1.trans ?_, (h c).2⟩) (Cert.ReferenceIdeal.Read.run m' ρ')
  obtain ⟨h0, h1, h2, h3, h4⟩ := hagree c
  rw [h0, h1, h2, h3, h4]

/-- Every claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
